-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x128 : Shape := ⟨2, ![16384, 128]⟩
abbrev S1000x128 : Shape := ⟨2, ![1000, 128]⟩
abbrev S_ : Shape := ⟨0, ![]⟩

class Facts : Prop where
  bcast_S_S16384x128 : S_.BroadcastsInDim S16384x128 (![] : Fin 0 → Fin S16384x128.rank)
  bcast_S_S1000x128 : S_.BroadcastsInDim S1000x128 (![] : Fin 0 → Fin S1000x128.rank)

variable [Facts]

def fn {F : FTy → Type} [FloatOps F] (main_arg0 : FVec F S16384x128 .f32) (main_arg1 : FVec F S1000x128 .f32) : IVec S16384x128 1 × IVec S1000x128 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_v3 : FVec F S1000x128 .f32 := Host.absf main_arg1
  let main_cst_0 : FVec F S_ .f32 := constant S_ .f32 0x7F800000#32
  let main_v4 : FVec F S1000x128 .f32 := broadcastInDim S1000x128 ![] bcast_S_S1000x128 main_cst_0
  let main_v5 : IVec S1000x128 1 := cmpf .olt main_v3 main_v4
  (main_v2, main_v5)
-- ==== Kernel.lean ====
abbrev S16384x128 : Shape := ⟨2, ![16384, 128]⟩
abbrev S1000x128 : Shape := ⟨2, ![1000, 128]⟩
abbrev S_ : Shape := ⟨0, ![]⟩
abbrev S1024x128 : Shape := ⟨2, ![1024, 128]⟩
abbrev S1000 : Shape := ⟨1, ![1000]⟩
abbrev S1024 : Shape := ⟨1, ![1024]⟩
abbrev S1x1024 : Shape := ⟨2, ![1, 1024]⟩
abbrev S16x1x1024 : Shape := ⟨3, ![16, 1, 1024]⟩
abbrev S1x1x1024 : Shape := ⟨3, ![1, 1, 1024]⟩
abbrev S1024x1024 : Shape := ⟨2, ![1024, 1024]⟩
abbrev S1024x1 : Shape := ⟨2, ![1024, 1]⟩
abbrev S1x128 : Shape := ⟨2, ![1, 128]⟩
abbrev S16384 : Shape := ⟨1, ![16384]⟩

abbrev nBuf : Space → Nat
  | .hbm => 17
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S1000x128, .f32⟩
  | .hbm, ⟨2, _⟩ => ⟨S_, .f32⟩
  | .hbm, ⟨3, _⟩ => ⟨S1000x128, .f32⟩
  | .hbm, ⟨4, _⟩ => ⟨S1000x128, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1000x128, .f32⟩
  | .hbm, ⟨9, _⟩ => ⟨S_, .f32⟩
  | .hbm, ⟨10, _⟩ => ⟨S1000, .f32⟩
  | .hbm, ⟨11, _⟩ => ⟨S_, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S16x1x1024, .i32⟩
  | .hbm, ⟨16, _⟩ => ⟨S16384, .i32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1x1024, .f32⟩
  | .local _ .vmem, ⟨4, _⟩ => ⟨S1x1x1024, .i32⟩
  | .local _ .vmem, ⟨5, _⟩ => ⟨S1x1x1024, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x128 : Shape := ⟨2, ![16384, 128]⟩
abbrev S1000x128 : Shape := ⟨2, ![1000, 128]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S128x1000 : Shape := ⟨2, ![128, 1000]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1000x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x128, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S128x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S16384x1000, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Argmin.lean ====
/-
  The first minimiser of a function of the natural numbers on an interval, and the three ways this
  certificate meets it: a chunk of 128-lane groups searched by two minimum folds, two neighbouring
  intervals joined by a strict comparison, and a lexicographic minimum of (value, index) pairs.
-/
module

public import Mathlib.Data.EReal.Operations
public import Mathlib.Data.Finset.Fold
public import Mathlib.Data.Fintype.Basic
public import Mathlib.Tactic.NormNum
public import Mathlib.Tactic.FinCases
public import Mathlib.Data.Fin.VecNotation

@[expose] public section

namespace Cert.Argmin

variable {lo mid hi k k' k0 k1 : ℕ} {f : ℕ → EReal}

/-- `k` is the first point of `[lo, hi)` at which `f` takes its least value on `[lo, hi)`. -/
def IsFirstMin (lo hi : ℕ) (f : ℕ → EReal) (k : ℕ) : Prop :=
  (lo ≤ k ∧ k < hi) ∧ (∀ j, lo ≤ j → j < hi → f k ≤ f j) ∧ ∀ j, lo ≤ j → j < k → f k < f j

/-- An interval has at most one first minimiser. -/
theorem IsFirstMin.unique (h : IsFirstMin lo hi f k) (h' : IsFirstMin lo hi f k') : k = k' := by
  rcases lt_trichotomy k k' with hlt | heq | hgt
  · exact absurd (h'.2.2 k h.1.1 hlt) (not_lt.2 (h.2.1 k' h'.1.1 h'.1.2))
  · exact heq
  · exact absurd (h.2.2 k' h'.1.1 hgt) (not_lt.2 (h'.2.1 k h.1.1 h.1.2))

/-- Of two neighbouring intervals the later one's first minimiser is taken exactly when its value is
    strictly smaller; what is taken is the first minimiser of the two together. -/
theorem IsFirstMin.join (h0 : IsFirstMin lo mid f k0) (h1 : IsFirstMin mid hi f k1) :
    IsFirstMin lo hi f (if f k1 < f k0 then k1 else k0) := by
  obtain ⟨⟨a0, b0⟩, l0, s0⟩ := h0
  obtain ⟨⟨a1, b1⟩, l1, s1⟩ := h1
  split
  · rename_i hlt
    refine ⟨⟨by omega, b1⟩, fun j hj hj' => ?_, fun j hj hj' => ?_⟩
    · by_cases hm : j < mid
      · exact hlt.le.trans (l0 j hj hm)
      · exact l1 j (by omega) hj'
    · by_cases hm : j < mid
      · exact hlt.trans_le (l0 j hj hm)
      · exact s1 j (by omega) hj'
  · rename_i hnlt
    refine ⟨⟨a0, by omega⟩, fun j hj hj' => ?_, s0⟩
    by_cases hm : j < mid
    · exact l0 j hj hm
    · exact (not_lt.1 hnlt).trans (l1 j (by omega) hj')

/-- A tail of the interval on which the function is infinite holds no minimiser, when some value before it is finite. -/
theorem IsFirstMin.restrict (h : IsFirstMin lo hi f k) (hmid : mid ≤ hi) (htop : ∀ n, mid ≤ n → f n = ⊤)
    (hfin : ∃ n, lo ≤ n ∧ n < mid ∧ f n ≠ ⊤) : IsFirstMin lo mid f k := by
  obtain ⟨⟨a, b⟩, l, s⟩ := h
  obtain ⟨n, hn, hn', hne⟩ := hfin
  refine ⟨⟨a, not_le.1 fun hk => hne ?_⟩, fun j hj hj' => l j hj (by omega), s⟩
  exact top_le_iff.1 ((htop k hk) ▸ l n hn (by omega))

/-- Being the first minimiser depends only on the function's values on the interval. -/
theorem IsFirstMin.congr {g : ℕ → EReal} (h : IsFirstMin lo hi f k) (hfg : ∀ n, lo ≤ n → n < hi → f n = g n) :
    IsFirstMin lo hi g k := by
  obtain ⟨⟨a, b⟩, l, s⟩ := h
  refine ⟨⟨a, b⟩, fun j hj hj' => ?_, fun j hj hj' => ?_⟩
  · rw [← hfg k a b, ← hfg j hj hj']; exact l j hj hj'
  · rw [← hfg k a b, ← hfg j hj (by omega)]; exact s j hj hj'

/-! ### One chunk -/

/-- A family of values, infinite off `[lo, hi)` and `f` of the key on it, whose keys cover `[lo, hi)`: a lower
    bound `m` attained by the family, and a lower bound `i` attained by "the key where the value is at most
    `m`, 1024 elsewhere", are `f`'s least value on `[lo, hi)` and its first minimiser. -/
theorem firstMin_of_family {ι : Type} (lo hi : ℕ) (f : ℕ → EReal) (key : ι → ℕ) (v : ι → EReal) (m i : EReal)
    (hv : ∀ a, v a = if lo ≤ key a ∧ key a < hi then f (key a) else ⊤)
    (hcov : ∀ n, lo ≤ n → n < hi → ∃ a, key a = n)
    (hfin : ∃ n, lo ≤ n ∧ n < hi ∧ f n ≠ ⊤) (hbig : hi ≤ 1024)
    (hm : ∀ a, m ≤ v a) (hm' : ∃ a, m = v a)
    (hp : ∀ a, i ≤ if v a ≤ m then (((key a : ℕ) : ℝ) : EReal) else ((1024 : ℝ) : EReal))
    (hp' : ∃ a, i = if v a ≤ m then (((key a : ℕ) : ℝ) : EReal) else ((1024 : ℝ) : EReal)) :
    ∃ k, IsFirstMin lo hi f k ∧ m = f k ∧ i = ((k : ℝ) : EReal) := by
  obtain ⟨n, hn, hn', hne⟩ := hfin
  have hmt : m ≠ ⊤ := by
    obtain ⟨a, rfl⟩ := hcov n hn hn'
    intro h
    have := hm a
    rw [h, top_le_iff, hv a, if_pos ⟨hn, hn'⟩] at this
    exact hne this
  have hin : ∀ a, v a ≤ m → lo ≤ key a ∧ key a < hi := by
    intro a ha
    by_contra hc
    rw [hv a, if_neg hc, top_le_iff] at ha
    exact hmt ha
  obtain ⟨a, ha⟩ := hm'
  obtain ⟨b, hb⟩ := hp'
  by_cases hbm : v b ≤ m
  · rw [if_pos hbm] at hb
    have hbr := hin b hbm
    have hvb : m = f (key b) := by rw [le_antisymm (hm b) hbm, hv b, if_pos hbr]
    refine ⟨key b, ⟨hbr, fun j hj hj' => ?_, fun j hj hj' => ?_⟩, hvb, hb⟩
    · obtain ⟨c, rfl⟩ := hcov j hj hj'
      have := hm c
      rwa [hv c, if_pos ⟨hj, hj'⟩, hvb] at this
    · obtain ⟨c, rfl⟩ := hcov j hj (by omega)
      rw [← hvb]
      refine lt_of_not_ge fun hc => ?_
      have h1 := hp c
      have hvc : v c ≤ m := by rw [hv c, if_pos (And.intro hj (by omega : key c < hi))]; exact hc
      rw [if_pos hvc, hb, EReal.coe_le_coe_iff, Nat.cast_le] at h1
      omega
  · rw [if_neg hbm] at hb
    have hav : v a ≤ m := ha.ge
    have h1 := hp a
    have h2 := hin a hav
    rw [if_pos hav, hb, EReal.coe_le_coe_iff] at h1
    have h3 : (1024 : ℕ) ≤ key a := by exact_mod_cast h1
    omega

section Fold
variable {α : Type} [Fintype α]

/-- A minimum fold from infinity is below every member. -/
theorem fold_min_le (g : α → EReal) (a : α) : Finset.univ.fold min ⊤ g ≤ g a :=
  Finset.fold_min_le (s := Finset.univ) (c := g a) |>.2 (.inr ⟨a, Finset.mem_univ a, le_rfl⟩)

/-- A minimum fold from infinity over a nonempty type is one of the members. -/
theorem exists_fold_min_eq [Nonempty α] (g : α → EReal) : ∃ a, Finset.univ.fold min ⊤ g = g a := by
  rcases (Finset.fold_min_le (s := Finset.univ) (f := g) (b := ⊤) (c := Finset.univ.fold min ⊤ g)).1 le_rfl with h | ⟨a, _, h⟩
  · obtain ⟨a⟩ := (inferInstance : Nonempty α)
    exact ⟨a, le_antisymm (fold_min_le g a) (le_top.trans h)⟩
  · exact ⟨a, le_antisymm (fold_min_le g a) h⟩

/-- The fold of three families' lanewise minimum is below every member of each of them. -/
theorem fold_min3_le (v : Fin 3 → α → EReal) (a : Fin 3 × α) :
    Finset.univ.fold min ⊤ (fun x => min (min (v 0 x) (v 1 x)) (v 2 x)) ≤ v a.1 a.2 := by
  obtain ⟨g, x⟩ := a
  refine (fold_min_le _ x).trans ?_
  fin_cases g
  · exact (min_le_left _ _).trans (min_le_left _ _)
  · exact (min_le_left _ _).trans (min_le_right _ _)
  · exact min_le_right _ _

/-- The fold of three families' lanewise minimum is a member of one of them. -/
theorem exists_fold_min3_eq [Nonempty α] (v : Fin 3 → α → EReal) :
    ∃ a : Fin 3 × α, Finset.univ.fold min ⊤ (fun x => min (min (v 0 x) (v 1 x)) (v 2 x)) = v a.1 a.2 := by
  obtain ⟨x, hx⟩ := exists_fold_min_eq fun x => min (min (v 0 x) (v 1 x)) (v 2 x)
  rw [hx]
  rcases min_choice (min (v 0 x) (v 1 x)) (v 2 x) with h | h
  · rcases min_choice (v 0 x) (v 1 x) with h' | h'
    · exact ⟨(0, x), h.trans h'⟩
    · exact ⟨(1, x), h.trans h'⟩
  · exact ⟨(2, x), h⟩

/-- The fold of four families' lanewise minimum is below every member of each of them. -/
theorem fold_min4_le (v : Fin 4 → α → EReal) (a : Fin 4 × α) :
    Finset.univ.fold min ⊤ (fun x => min (min (min (v 0 x) (v 1 x)) (v 2 x)) (v 3 x)) ≤ v a.1 a.2 := by
  obtain ⟨g, x⟩ := a
  refine (fold_min_le _ x).trans ?_
  fin_cases g
  · exact (min_le_left _ _).trans ((min_le_left _ _).trans (min_le_left _ _))
  · exact (min_le_left _ _).trans ((min_le_left _ _).trans (min_le_right _ _))
  · exact (min_le_left _ _).trans (min_le_right _ _)
  · exact min_le_right _ _

/-- The fold of four families' lanewise minimum is a member of one of them. -/
theorem exists_fold_min4_eq [Nonempty α] (v : Fin 4 → α → EReal) :
    ∃ a : Fin 4 × α, Finset.univ.fold min ⊤ (fun x => min (min (min (v 0 x) (v 1 x)) (v 2 x)) (v 3 x)) = v a.1 a.2 := by
  obtain ⟨x, hx⟩ := exists_fold_min_eq fun x => min (min (min (v 0 x) (v 1 x)) (v 2 x)) (v 3 x)
  rw [hx]
  rcases min_choice (min (min (v 0 x) (v 1 x)) (v 2 x)) (v 3 x) with h | h
  · rcases min_choice (min (v 0 x) (v 1 x)) (v 2 x) with h' | h'
    · rcases min_choice (v 0 x) (v 1 x) with h'' | h''
      · exact ⟨(0, x), h.trans (h'.trans h'')⟩
      · exact ⟨(1, x), h.trans (h'.trans h'')⟩
    · exact ⟨(2, x), h.trans h'⟩
  · exact ⟨(3, x), h⟩

end Fold

/-- What a lane of a group starting at index `b` offers the index search: its own index where its value is at
    most the chunk's least value `m`, and 1024 elsewhere. -/
noncomputable def pick (b : ℕ) (m : EReal) (v : Fin 128 → EReal) (x : Fin 128) : EReal :=
  if v x ≤ m then (((b + (x : ℕ) : ℕ) : ℝ) : EReal) else ((1024 : ℝ) : EReal)

/-- A lane's value in the chunk `[lo, hi)`: `f` of its index if that lies in the chunk, infinite otherwise. -/
noncomputable def lane (lo hi : ℕ) (f : ℕ → EReal) (b : ℕ) (x : Fin 128) : EReal :=
  if lo ≤ b + (x : ℕ) ∧ b + (x : ℕ) < hi then f (b + (x : ℕ)) else ⊤

/-- A chunk of three groups: the two folds give its least value and its first minimiser. -/
theorem chunk3 (lo hi : ℕ) (f : ℕ → EReal) (b : Fin 3 → ℕ) (m : EReal)
    (hcov : ∀ n, lo ≤ n → n < hi → ∃ a : Fin 3 × Fin 128, b a.1 + (a.2 : ℕ) = n)
    (hfin : ∃ n, lo ≤ n ∧ n < hi ∧ f n ≠ ⊤) (hbig : hi ≤ 1024)
    (hm : m = Finset.univ.fold min ⊤ fun x => min (min (lane lo hi f (b 0) x) (lane lo hi f (b 1) x)) (lane lo hi f (b 2) x)) :
    ∃ k, IsFirstMin lo hi f k ∧ m = f k ∧
      (Finset.univ.fold min ⊤ fun x => min (min (pick (b 0) m (lane lo hi f (b 0)) x) (pick (b 1) m (lane lo hi f (b 1)) x))
        (pick (b 2) m (lane lo hi f (b 2)) x)) = ((k : ℝ) : EReal) := by
  refine firstMin_of_family lo hi f (fun a : Fin 3 × Fin 128 => b a.1 + (a.2 : ℕ)) (fun a => lane lo hi f (b a.1) a.2) m _
    (fun _ => rfl) hcov hfin hbig ?_ ?_ ?_ ?_
  · rw [hm]; exact fold_min3_le fun g => lane lo hi f (b g)
  · rw [hm]; exact exists_fold_min3_eq fun g => lane lo hi f (b g)
  · exact fold_min3_le fun g => pick (b g) m (lane lo hi f (b g))
  · exact exists_fold_min3_eq fun g => pick (b g) m (lane lo hi f (b g))

/-- A chunk of four groups: the two folds give its least value and its first minimiser. -/
theorem chunk4 (lo hi : ℕ) (f : ℕ → EReal) (b : Fin 4 → ℕ) (m : EReal)
    (hcov : ∀ n, lo ≤ n → n < hi → ∃ a : Fin 4 × Fin 128, b a.1 + (a.2 : ℕ) = n)
    (hfin : ∃ n, lo ≤ n ∧ n < hi ∧ f n ≠ ⊤) (hbig : hi ≤ 1024)
    (hm : m = Finset.univ.fold min ⊤ fun x => min (min (min (lane lo hi f (b 0) x) (lane lo hi f (b 1) x))
      (lane lo hi f (b 2) x)) (lane lo hi f (b 3) x)) :
    ∃ k, IsFirstMin lo hi f k ∧ m = f k ∧
      (Finset.univ.fold min ⊤ fun x => min (min (min (pick (b 0) m (lane lo hi f (b 0)) x) (pick (b 1) m (lane lo hi f (b 1)) x))
        (pick (b 2) m (lane lo hi f (b 2)) x)) (pick (b 3) m (lane lo hi f (b 3)) x)) = ((k : ℝ) : EReal) := by
  refine firstMin_of_family lo hi f (fun a : Fin 4 × Fin 128 => b a.1 + (a.2 : ℕ)) (fun a => lane lo hi f (b a.1) a.2) m _
    (fun _ => rfl) hcov hfin hbig ?_ ?_ ?_ ?_
  · rw [hm]; exact fold_min4_le fun g => lane lo hi f (b g)
  · rw [hm]; exact exists_fold_min4_eq fun g => lane lo hi f (b g)
  · exact fold_min4_le fun g => pick (b g) m (lane lo hi f (b g))
  · exact exists_fold_min4_eq fun g => pick (b g) m (lane lo hi f (b g))

/-- Three neighbouring chunks' least values and first minimisers joined by strict comparisons: the number so
    selected is the first minimiser of the whole interval. -/
theorem join3 {a b c d k0 k1 k2 : ℕ} {f : ℕ → EReal} (h0 : IsFirstMin a b f k0) (h1 : IsFirstMin b c f k1)
    (h2 : IsFirstMin c d f k2) :
    ∃ k, IsFirstMin a d f k ∧
      (if f k2 < (if f k1 < f k0 then f k1 else f k0) then ((k2 : ℝ) : EReal)
        else if f k1 < f k0 then ((k1 : ℝ) : EReal) else ((k0 : ℝ) : EReal)) = ((k : ℝ) : EReal) := by
  refine ⟨_, (h0.join h1).join h2, ?_⟩
  split_ifs <;> first | rfl | (exfalso; simp_all)

/-! ### The lexicographic minimum of pairs -/

/-- `p` comes no later than `q` by value, and on equal values by index. -/
def LexLe (p q : EReal × ℕ) : Prop := p.1 < q.1 ∨ p.1 = q.1 ∧ p.2 ≤ q.2

/-- A pair (value, index) among those of `f` on `[0, n)` that comes no later than any of them is the first
    minimiser's. -/
theorem isFirstMin_of_lex {n : ℕ} {p : EReal × ℕ} (hp : ∃ k, k < n ∧ p = (f k, k))
    (hle : ∀ j, j < n → LexLe p (f j, j)) : IsFirstMin 0 n f p.2 := by
  obtain ⟨k, hk, rfl⟩ := hp
  refine ⟨⟨Nat.zero_le _, hk⟩, fun j _ hj => ?_, fun j _ hj => ?_⟩
  · rcases hle j hj with h | h
    · exact h.le
    · exact h.1.le
  · rcases hle j (by simp only at hj; omega) with h | h
    · exact h
    · have := h.2; simp only at this hj; omega

end Cert.Argmin
-- ==== Proof.Block.lean ====
/-
  What one grid point of the kernel computes for one of its rows: the first index among the 1024 columns
  at which the row's distance is least, as a 32-bit word.
-/
module

public import proofs.«01_k».proof.Proof.Gen.KernelIdeal.Frame
public import proofs.«01_k».proof.Proof.Argmin
public import Idealize.ShloMosaic.Lib.Pointwise
public import Idealize.ShloMosaic.Lib.Pipeline.ValueKit
public import Mathlib.Tactic.NormNum

@[expose] public section

set_option maxRecDepth 16384

noncomputable section

open Idealize.ShloMosaic Idealize.ShloMosaic.TcCoe Idealize.SL.Sem
open Cert.KernelIdeal Cert.KernelIdeal.Gen Cert.Argmin

namespace Cert.Block

/-! ### The constants and the conversions -/

/-- The pattern of positive infinity. -/
theorem bits_inf : Ideal.ofBits .f32 0x7F800000#32 = ⊤ := by simp [Ideal.ofBits, Ideal.ieee]
/-- The pattern of 336. -/
theorem bits_336 : Ideal.ofBits .f32 0x43A80000#32 = (((336 : ℕ) : ℝ) : EReal) := by
  simp [Ideal.ofBits, Ideal.ieee]; rw [← EReal.coe_mul]; norm_num
/-- The pattern of 672. -/
theorem bits_672 : Ideal.ofBits .f32 0x44280000#32 = (((672 : ℕ) : ℝ) : EReal) := by
  simp [Ideal.ofBits, Ideal.ieee]; rw [← EReal.coe_mul]; norm_num
/-- The pattern of 1024. -/
theorem bits_1024 : Ideal.ofBits .f32 0x44800000#32 = ((1024 : ℝ) : EReal) := by
  simp [Ideal.ofBits, Ideal.ieee]; rw [← EReal.coe_mul]; norm_num

/-- Zero, as the float of the natural number. -/
theorem nat_zero : (0 : EReal) = (((0 : ℕ) : ℝ) : EReal) := by simp
/-- The pattern of 1024, as the float of the natural number. -/
theorem bits_1024' : Ideal.ofBits .f32 0x44800000#32 = (((1024 : ℕ) : ℝ) : EReal) := by rw [bits_1024]; norm_num

/-- A small natural number's 32-bit word, read signed, is that number. -/
theorem toInt_ofNat (k : ℕ) (hk : k < 1024) : (BitVec.ofNat 32 k).toInt = (k : ℤ) := by
  rw [BitVec.toInt_ofNat']; simp [Int.bmod]; omega

/-- Converting a small natural number, held as a float, to a 32-bit word. -/
theorem fptosi_natCast (k : ℕ) (hk : k < 1024) : Ideal.fptosi 32 ((k : ℝ) : EReal) = BitVec.ofNat 32 k := by
  rw [Ideal.fptosi, Ideal.toIntClamped_coe, if_pos (Nat.cast_nonneg k), Int.floor_natCast,
    min_eq_right (by norm_num <;> omega), max_eq_right (by norm_num <;> omega), BitVec.ofInt_natCast]

/-! ### A masked lane -/

/-- A distance plus the chunk mask (zero on the chunk's indices, infinity off them) is the lane's value in
    the chunk. -/
theorem masked_lane (lo hi : ℕ) (f : ℕ → EReal) (b : ℕ) (x : Fin 128) (hne : f (b + x) ≠ ⊥) :
    f (b + x) + Scalar.select
        (IntOp.andi (BitVec.ofBool (decide (((lo : ℝ) : EReal) ≤ (((b + (x : ℕ) : ℕ) : ℝ) : EReal))))
          (BitVec.ofBool (decide ((((b + (x : ℕ) : ℕ) : ℝ) : EReal) < ((hi : ℝ) : EReal))))) (0 : EReal) ⊤
      = lane lo hi f b x := by
  simp only [EReal.coe_le_coe_iff, EReal.coe_lt_coe_iff, Nat.cast_le, Nat.cast_lt, lane]
  by_cases h1 : lo ≤ b + (x : ℕ) <;> by_cases h2 : b + (x : ℕ) < hi <;>
    simp [h1, h2, Scalar.select, IntOp.andi, EReal.add_top_of_ne_bot hne]

/-- A group lying inside the chunk needs no mask. -/
theorem inner_lane (lo hi : ℕ) (f : ℕ → EReal) (b : ℕ) (x : Fin 128) (hlo : lo ≤ b) (hhi : b + 128 ≤ hi) :
    f (b + x) = lane lo hi f b x := by
  rw [lane, if_pos ⟨by omega, by omega⟩]

/-! ### The row -/

variable (x0 x1 : Vec Ideal S1024x128 .f32) (x2 : Vec Ideal S1x1024 .f32) (p : Fin 1024) (f : ℕ → EReal)

/-- The distance the kernel computes between row `p` of the block and column `k`: the row's square sum, plus
    the column's entry of the square-sum array, plus the product of the row with the scaled centre. -/
def rowDist (k : Fin 1024) : EReal :=
  (∑ j : Fin 128, x0 (ix2 p j) * x0 (ix2 p j)) + x2 (ix2 (0 : Fin 1) k) + ∑ j : Fin 128, x0 (ix2 p j) * x1 (ix2 k j)

/-- The distance matrix of the block, at an index. -/
theorem pay33_apply (k : Fin 1024) : k0_pay33 x0 x1 x2 (ix2 p k) = rowDist x0 x1 x2 p k := by
  pointwise [k0_pay33, k0_pay2]
  rfl

/-- The column numbers, as floats. -/
theorem pay34_apply (k : Fin 1024) : k0_pay34 x0 x1 x2 (ix2 (0 : Fin 1) k) = (((k : ℕ) : ℝ) : EReal) := by
  pointwise [k0_pay34, k0_pay3]
  show (((BitVec.ofNat 32 (k : ℕ)).toInt : ℝ) : EReal) = _
  rw [toInt_ofNat _ k.2]; simp

/-- The block's loads read the whole windows. -/
theorem pay33_eq : k0_pay33 x0 x1 x2 = k0_pay2 x0 x1 x2 := by
  unfold k0_pay33; frame_out
/-- The block's loads read the whole windows. -/
theorem pay35_eq : k0_pay35 x0 x1 x2 = k0_pay9 x0 x1 x2 := by
  unfold k0_pay35; frame_out

/-- The distance matrix of the block, at an index, over the windows themselves. -/
theorem pay2_apply (k : Fin 1024) : k0_pay2 x0 x1 x2 (ix2 p k) = rowDist x0 x1 x2 p k := by
  rw [← pay33_eq, pay33_apply]

/-! The column numbers of every group's lanes. -/

/-- The column numbers, as floats, before they are named with the block. -/
theorem pay3_apply (k : Fin 1024) : k0_pay3 (F := Ideal) (ix2 (0 : Fin 1) k) = (((k : ℕ) : ℝ) : EReal) :=
  pay34_apply (fun _ => 0) (fun _ => 0) (fun _ => 0) k

section Keys
variable (x : Fin 128)
/-- The column numbers of the lanes of group 1, before they are named with the block. -/
theorem pay6_apply : k0_pay6 (F := Ideal) (ix2 (0 : Fin 1) x) = (((128 + (x : ℕ) : ℕ) : ℝ) : EReal) := by
  pointwise [k0_pay6]
  rw [pay3_apply]
/-- The column numbers of the lanes of group 2, before they are named with the block. -/
theorem pay7_apply : k0_pay7 (F := Ideal) (ix2 (0 : Fin 1) x) = (((256 + (x : ℕ) : ℕ) : ℝ) : EReal) := by
  pointwise [k0_pay7]
  rw [pay3_apply]
/-- The column numbers of the lanes of group 2, as chunk 1 reads them. -/
theorem pay14_apply : k0_pay14 (k0_pay34 x0 x1 x2) (ix2 (0 : Fin 1) x) = (((256 + (x : ℕ) : ℕ) : ℝ) : EReal) := by
  pointwise [k0_pay14]
  rw [pay34_apply]
/-- The column numbers of the lanes of group 3. -/
theorem pay17_apply : k0_pay17 (k0_pay34 x0 x1 x2) (ix2 (0 : Fin 1) x) = (((384 + (x : ℕ) : ℕ) : ℝ) : EReal) := by
  pointwise [k0_pay17]
  rw [pay34_apply]
/-- The column numbers of the lanes of group 4. -/
theorem pay19_apply : k0_pay19 (k0_pay34 x0 x1 x2) (ix2 (0 : Fin 1) x) = (((512 + (x : ℕ) : ℕ) : ℝ) : EReal) := by
  pointwise [k0_pay19]
  rw [pay34_apply]
/-- The column numbers of the lanes of group 5, as chunk 1 reads them. -/
theorem pay20_apply : k0_pay20 (k0_pay34 x0 x1 x2) (ix2 (0 : Fin 1) x) = (((640 + (x : ℕ) : ℕ) : ℝ) : EReal) := by
  pointwise [k0_pay20]
  rw [pay34_apply]
/-- The column numbers of the lanes of group 5, as chunk 2 reads them. -/
theorem pay27_apply : k0_pay27 (k0_pay34 x0 x1 x2) (ix2 (0 : Fin 1) x) = (((640 + (x : ℕ) : ℕ) : ℝ) : EReal) := by
  pointwise [k0_pay27]
  rw [pay34_apply]
/-- The column numbers of the lanes of group 6. -/
theorem pay30_apply : k0_pay30 (k0_pay34 x0 x1 x2) (ix2 (0 : Fin 1) x) = (((768 + (x : ℕ) : ℕ) : ℝ) : EReal) := by
  pointwise [k0_pay30]
  rw [pay34_apply]
/-- The column numbers of the lanes of group 7. -/
theorem pay32_apply : k0_pay32 (k0_pay34 x0 x1 x2) (ix2 (0 : Fin 1) x) = (((896 + (x : ℕ) : ℕ) : ℝ) : EReal) := by
  pointwise [k0_pay32]
  rw [pay34_apply]
end Keys

/-! The lanes of every group, chunk by chunk, given that the row's distances are `f` and never negative infinity. -/

section Lanes
variable (hf : ∀ k : Fin 1024, rowDist x0 x1 x2 p k = f k) (hne : ∀ n, f n ≠ ⊥) (x : Fin 128)
include hf

/-- Chunk 0, group 0. -/
theorem pay4_apply : k0_pay4 x0 x1 x2 (ix2 p x) = lane 0 336 f 0 x := by
  rw [← inner_lane 0 336 f 0 x (by omega) (by omega), Nat.zero_add]
  pointwise [k0_pay4]
  rw [pay2_apply, hf]
/-- Chunk 0, group 1. -/
theorem pay5_apply : k0_pay5 x0 x1 x2 (ix2 p x) = lane 0 336 f 128 x := by
  rw [← inner_lane 0 336 f 128 x (by omega) (by omega)]
  pointwise [k0_pay5]
  rw [pay2_apply, hf]
/-- Chunk 1, group 3. -/
theorem pay16_apply : k0_pay16 (k0_pay33 x0 x1 x2) (ix2 p x) = lane 336 672 f 384 x := by
  rw [← inner_lane 336 672 f 384 x (by omega) (by omega)]
  pointwise [k0_pay16]
  rw [pay33_apply, hf]
/-- Chunk 1, group 4. -/
theorem pay18_apply : k0_pay18 (k0_pay33 x0 x1 x2) (ix2 p x) = lane 336 672 f 512 x := by
  rw [← inner_lane 336 672 f 512 x (by omega) (by omega)]
  pointwise [k0_pay18]
  rw [pay33_apply, hf]
/-- Chunk 2, group 6. -/
theorem pay29_apply : k0_pay29 (k0_pay33 x0 x1 x2) (ix2 p x) = lane 672 1024 f 768 x := by
  rw [← inner_lane 672 1024 f 768 x (by omega) (by omega)]
  pointwise [k0_pay29]
  rw [pay33_apply, hf]
/-- Chunk 2, group 7. -/
theorem pay31_apply : k0_pay31 (k0_pay33 x0 x1 x2) (ix2 p x) = lane 672 1024 f 896 x := by
  rw [← inner_lane 672 1024 f 896 x (by omega) (by omega)]
  pointwise [k0_pay31]
  rw [pay33_apply, hf]

include hne
/-- Chunk 0, group 2 (masked). -/
theorem pay8_apply : k0_pay8 x0 x1 x2 (ix2 p x) = lane 0 336 f 256 x := by
  rw [← masked_lane 0 336 f 256 x (hne _), ← nat_zero]
  pointwise [k0_pay8]
  rw [pay2_apply, hf, pay7_apply, bits_336, bits_inf]
/-- Chunk 1, group 2 (masked). -/
theorem pay15_apply : k0_pay15 (k0_pay33 x0 x1 x2) (k0_pay34 x0 x1 x2) (ix2 p x) = lane 336 672 f 256 x := by
  rw [← masked_lane 336 672 f 256 x (hne _)]
  pointwise [k0_pay15]
  rw [pay33_apply, hf, pay14_apply, bits_336, bits_672, bits_inf]
/-- Chunk 1, group 5 (masked). -/
theorem pay21_apply : k0_pay21 (k0_pay33 x0 x1 x2) (k0_pay34 x0 x1 x2) (ix2 p x) = lane 336 672 f 640 x := by
  rw [← masked_lane 336 672 f 640 x (hne _)]
  pointwise [k0_pay21]
  rw [pay33_apply, hf, pay20_apply, bits_336, bits_672, bits_inf]
/-- Chunk 2, group 5 (masked). -/
theorem pay28_apply : k0_pay28 (k0_pay33 x0 x1 x2) (k0_pay34 x0 x1 x2) (ix2 p x) = lane 672 1024 f 640 x := by
  rw [← masked_lane 672 1024 f 640 x (hne _)]
  pointwise [k0_pay28]
  rw [pay33_apply, hf, pay27_apply, bits_672, bits_1024', bits_inf]
end Lanes

/-! ### The chunks' least values and first minimisers -/

section Chunks
variable (hf : ∀ k : Fin 1024, rowDist x0 x1 x2 p k = f k) (hne : ∀ n, f n ≠ ⊥)
include hf hne

/-- Chunk 0's least value. -/
theorem min0 : k0_pay9 x0 x1 x2 (ix2 p (0 : Fin 1)) = Finset.univ.fold min ⊤ fun x =>
    min (min (lane 0 336 f 0 x) (lane 0 336 f 128 x)) (lane 0 336 f 256 x) := by
  pointwise [k0_pay9]
  simp only [pay4_apply x0 x1 x2 p f hf, pay5_apply x0 x1 x2 p f hf, pay8_apply x0 x1 x2 p f hf hne, bits_inf]
/-- Chunk 1's least value. -/
theorem min1 : k0_pay37 x0 x1 x2 (ix1 p) = Finset.univ.fold min ⊤ fun x =>
    min (min (min (lane 336 672 f 256 x) (lane 336 672 f 384 x)) (lane 336 672 f 512 x)) (lane 336 672 f 640 x) := by
  pointwise [k0_pay37, k0_pay22]
  simp only [pay15_apply x0 x1 x2 p f hf hne, pay16_apply x0 x1 x2 p f hf, pay18_apply x0 x1 x2 p f hf, pay21_apply x0 x1 x2 p f hf hne, bits_inf]
/-- Chunk 2's least value. -/
theorem min2 : (Finset.univ.fold min ⊤ fun x : Fin 128 => min (min (k0_pay28 (k0_pay33 x0 x1 x2) (k0_pay34 x0 x1 x2) (ix2 p x))
      (k0_pay29 (k0_pay33 x0 x1 x2) (ix2 p x))) (k0_pay31 (k0_pay33 x0 x1 x2) (ix2 p x)))
    = Finset.univ.fold min ⊤ fun x =>
    min (min (lane 672 1024 f 640 x) (lane 672 1024 f 768 x)) (lane 672 1024 f 896 x) := by
  simp only [pay28_apply x0 x1 x2 p f hf hne, pay29_apply x0 x1 x2 p f hf, pay31_apply x0 x1 x2 p f hf]

/-- Chunk 0's index search. -/
theorem idx0 : k0_pay12 (k0_pay6 (F := Ideal)) (k0_pay7 (F := Ideal)) (k0_pay8 x0 x1 x2) (k0_pay35 x0 x1 x2)
      (k0_pay10 x0 x1 x2) (k0_pay11 x0 x1 x2) (ix2 p (0 : Fin 1))
    = Finset.univ.fold min ⊤ fun x => min (min (pick 0 (k0_pay9 x0 x1 x2 (ix2 p (0 : Fin 1))) (lane 0 336 f 0) x)
      (pick 128 (k0_pay9 x0 x1 x2 (ix2 p (0 : Fin 1))) (lane 0 336 f 128) x))
      (pick 256 (k0_pay9 x0 x1 x2 (ix2 p (0 : Fin 1))) (lane 0 336 f 256) x) := by
  rw [pay35_eq]
  pointwise [k0_pay12, k0_pay10, k0_pay11]
  simp only [pay4_apply x0 x1 x2 p f hf, pay5_apply x0 x1 x2 p f hf, pay8_apply x0 x1 x2 p f hf hne, bits_inf,
    pay3_apply, pay6_apply, pay7_apply, bits_1024, pick, Nat.zero_add]

/-- The running index after chunks 0 and 1: chunk 1's search where its least value is the strictly smaller. -/
theorem idx1 : k0_pay25 (k0_pay12 (k0_pay6 (F := Ideal)) (k0_pay7 (F := Ideal)) (k0_pay8 x0 x1 x2) (k0_pay35 x0 x1 x2)
        (k0_pay10 x0 x1 x2) (k0_pay11 x0 x1 x2)) (k0_pay36 x0 x1 x2) (k0_pay14 (k0_pay34 x0 x1 x2))
      (k0_pay15 (k0_pay33 x0 x1 x2) (k0_pay34 x0 x1 x2)) (k0_pay16 (k0_pay33 x0 x1 x2)) (k0_pay17 (k0_pay34 x0 x1 x2))
      (k0_pay18 (k0_pay33 x0 x1 x2)) (k0_pay19 (k0_pay34 x0 x1 x2)) (k0_pay20 (k0_pay34 x0 x1 x2))
      (k0_pay21 (k0_pay33 x0 x1 x2) (k0_pay34 x0 x1 x2)) (k0_pay37 x0 x1 x2) (ix2 p (0 : Fin 1))
    = if k0_pay37 x0 x1 x2 (ix1 p) < k0_pay9 x0 x1 x2 (ix2 p (0 : Fin 1)) then
        Finset.univ.fold min ⊤ fun x => min (min (min
          (pick 256 (k0_pay37 x0 x1 x2 (ix1 p)) (lane 336 672 f 256) x)
          (pick 384 (k0_pay37 x0 x1 x2 (ix1 p)) (lane 336 672 f 384) x))
          (pick 512 (k0_pay37 x0 x1 x2 (ix1 p)) (lane 336 672 f 512) x))
          (pick 640 (k0_pay37 x0 x1 x2 (ix1 p)) (lane 336 672 f 640) x)
      else Finset.univ.fold min ⊤ fun x => min (min (pick 0 (k0_pay9 x0 x1 x2 (ix2 p (0 : Fin 1))) (lane 0 336 f 0) x)
        (pick 128 (k0_pay9 x0 x1 x2 (ix2 p (0 : Fin 1))) (lane 0 336 f 128) x))
        (pick 256 (k0_pay9 x0 x1 x2 (ix2 p (0 : Fin 1))) (lane 0 336 f 256) x) := by
  rw [← idx0 x0 x1 x2 p f hf hne]
  pointwise [k0_pay25, k0_pay23, k0_pay24, k0_pay36, k0_pay13]
  simp only [pay35_eq, pay15_apply x0 x1 x2 p f hf hne, pay16_apply x0 x1 x2 p f hf, pay18_apply x0 x1 x2 p f hf,
    pay21_apply x0 x1 x2 p f hf hne, bits_inf, pay14_apply, pay17_apply, pay19_apply, pay20_apply, bits_1024, pick]

/-- The running least value after chunks 0 and 1. -/
theorem val1 : k0_pay26 (k0_pay36 x0 x1 x2) (k0_pay37 x0 x1 x2) (ix2 p (0 : Fin 1))
    = if k0_pay37 x0 x1 x2 (ix1 p) < k0_pay9 x0 x1 x2 (ix2 p (0 : Fin 1)) then k0_pay37 x0 x1 x2 (ix1 p)
      else k0_pay9 x0 x1 x2 (ix2 p (0 : Fin 1)) := by
  pointwise [k0_pay26, k0_pay23, k0_pay24, k0_pay36, k0_pay13]
  simp only [pay35_eq]

/-- WHAT A ROW OF THE BLOCK COMPUTES: the first column at which the row's distance is least, as a word. -/
theorem row_eq (h0 : ∃ n, 0 ≤ n ∧ n < 336 ∧ f n ≠ ⊤) (h1 : ∃ n, 336 ≤ n ∧ n < 672 ∧ f n ≠ ⊤)
    (h2 : ∃ n, 672 ≤ n ∧ n < 1024 ∧ f n ≠ ⊤) :
    ∃ k, IsFirstMin 0 1024 f k ∧
    k0_pay1 (k0_pay25 (k0_pay12 (k0_pay6 (F := Ideal)) (k0_pay7 (F := Ideal)) (k0_pay8 x0 x1 x2) (k0_pay35 x0 x1 x2) (k0_pay10 x0 x1 x2) (k0_pay11 x0 x1 x2)) (k0_pay36 x0 x1 x2) (k0_pay14 (k0_pay34 x0 x1 x2))
      (k0_pay15 (k0_pay33 x0 x1 x2) (k0_pay34 x0 x1 x2)) (k0_pay16 (k0_pay33 x0 x1 x2)) (k0_pay17 (k0_pay34 x0 x1 x2))
      (k0_pay18 (k0_pay33 x0 x1 x2)) (k0_pay19 (k0_pay34 x0 x1 x2)) (k0_pay20 (k0_pay34 x0 x1 x2))
      (k0_pay21 (k0_pay33 x0 x1 x2) (k0_pay34 x0 x1 x2)) (k0_pay37 x0 x1 x2))
      (k0_pay26 (k0_pay36 x0 x1 x2) (k0_pay37 x0 x1 x2)) (k0_pay27 (k0_pay34 x0 x1 x2))
      (k0_pay28 (k0_pay33 x0 x1 x2) (k0_pay34 x0 x1 x2)) (k0_pay29 (k0_pay33 x0 x1 x2)) (k0_pay30 (k0_pay34 x0 x1 x2))
      (k0_pay31 (k0_pay33 x0 x1 x2)) (k0_pay32 (k0_pay34 x0 x1 x2)) (ix3 (0 : Fin 1) (0 : Fin 1) p) = BitVec.ofNat 32 k := by
  obtain ⟨k0, f0, m0, i0⟩ := chunk3 0 336 f ![0, 128, 256] _
    (fun n _ hn => ⟨(⟨n / 128, by omega⟩, ⟨n % 128, by omega⟩), by
      have : n / 128 = 0 ∨ n / 128 = 1 ∨ n / 128 = 2 := by omega
      rcases this with h | h | h <;> simp [h] <;> omega⟩) h0 (by omega) (min0 x0 x1 x2 p f hf hne)
  obtain ⟨k1, f1, m1, i1⟩ := chunk4 336 672 f ![256, 384, 512, 640] _
    (fun n hn hn' => ⟨(⟨n / 128 - 2, by omega⟩, ⟨n % 128, by omega⟩), by
      have : n / 128 = 2 ∨ n / 128 = 3 ∨ n / 128 = 4 ∨ n / 128 = 5 := by omega
      rcases this with h | h | h | h <;> simp [h] <;> omega⟩) h1 (by omega) (min1 x0 x1 x2 p f hf hne)
  obtain ⟨k2, f2, m2, i2⟩ := chunk3 672 1024 f ![640, 768, 896] _
    (fun n hn hn' => ⟨(⟨n / 128 - 5, by omega⟩, ⟨n % 128, by omega⟩), by
      have : n / 128 = 5 ∨ n / 128 = 6 ∨ n / 128 = 7 := by omega
      rcases this with h | h | h <;> simp [h] <;> omega⟩) h2 (by omega) rfl
  obtain ⟨k, hk, e⟩ := join3 f0 f1 f2
  refine ⟨k, hk, ?_⟩
  rw [← fptosi_natCast k hk.1.2, ← e]
  rw [m0] at i0
  rw [m1] at i1
  rw [m2] at i2
  replace m2 : _ = f k2 := (min2 x0 x1 x2 p f hf hne).trans m2
  pointwise [k0_pay1]
  simp only [bits_inf]
  rw [m2, idx1 x0 x1 x2 p f hf hne, val1 x0 x1 x2 p f hf hne, m0, m1]
  simp only [pay28_apply x0 x1 x2 p f hf hne, pay29_apply x0 x1 x2 p f hf, pay31_apply x0 x1 x2 p f hf, pay27_apply,
    pay30_apply, pay32_apply, bits_1024]
  exact congrArg (Ideal.fptosi 32) (congrArg₂ (fun u v => if f k2 < (if f k1 < f k0 then f k1 else f k0) then u else v) i2
    (congrArg₂ (fun u v => if f k1 < f k0 then u else v) i1 i0))
end Chunks

end Cert.Block
-- ==== Proof.Distance.lean ====
/-
  The squared distance the reference computes between a row and a centre, what the kernel computes in its
  place, and that on finite inputs the two are one number.
-/
module

public import proofs.«01_k».proof.Proof.Argmin
public import Mathlib.Algebra.BigOperators.Fin
public import Mathlib.Algebra.BigOperators.Ring.Finset
public import Mathlib.Tactic.Ring

@[expose] public section

open scoped BigOperators

namespace Cert.Distance

open Cert.Argmin

/-- Neither infinity occurs among the values. -/
def Finite {ι : Type} (x : ι → EReal) : Prop := ∀ j, x j ≠ ⊤ ∧ x j ≠ ⊥

/-- The reference's squared distance between the vectors `x` and `c`, expanded. -/
noncomputable def sqDist (x c : Fin 128 → EReal) : EReal :=
  (∑ j, x j * x j) + (∑ j, c j * c j) - ((2 : ℝ) : EReal) * ∑ j, x j * c j

/-- A sum of real numbers, taken in the extended reals. -/
theorem coe_sum (a : Fin 128 → ℝ) : (∑ j, ((a j : ℝ) : EReal)) = ((∑ j, a j : ℝ) : EReal) := by
  induction (Finset.univ : Finset (Fin 128)) using Finset.cons_induction with
  | empty => simp
  | cons i s hi ih => rw [Finset.sum_cons, Finset.sum_cons, ih, EReal.coe_add]

/-- A finite vector is a vector of real numbers. -/
theorem Finite.exists_coe {x : Fin 128 → EReal} (h : Finite x) : ∃ a : Fin 128 → ℝ, x = fun j => ((a j : ℝ) : EReal) :=
  ⟨fun j => (x j).toReal, funext fun j => (EReal.coe_toReal (h j).1 (h j).2).symm⟩

variable {x c : Fin 128 → EReal}

/-- On real vectors the squared distance is a real number. -/
theorem sqDist_coe (a b : Fin 128 → ℝ) : sqDist (fun j => ((a j : ℝ) : EReal)) (fun j => ((b j : ℝ) : EReal))
    = (((∑ j, a j * a j) + (∑ j, b j * b j) - 2 * ∑ j, a j * b j : ℝ) : EReal) := by
  simp only [sqDist, ← EReal.coe_mul, coe_sum, ← EReal.coe_add, ← EReal.coe_sub]

/-- The kernel scales the centre by -2 beforehand and adds; on finite vectors that is the squared distance. -/
theorem scaled_eq (hx : Finite x) (hc : Finite c) :
    (∑ j, x j * x j) + (∑ j, c j * c j) + ∑ j, x j * (c j * ((-2 : ℝ) : EReal)) = sqDist x c := by
  obtain ⟨a, rfl⟩ := hx.exists_coe
  obtain ⟨b, rfl⟩ := hc.exists_coe
  rw [sqDist_coe]
  simp only [← EReal.coe_mul, coe_sum, ← EReal.coe_add]
  rw [EReal.coe_eq_coe_iff, sub_eq_add_neg, Finset.mul_sum, ← Finset.sum_neg_distrib]
  congr 1
  exact Finset.sum_congr rfl fun j _ => by ring

/-- On finite vectors the squared distance is finite. -/
theorem sqDist_finite (hx : Finite x) (hc : Finite c) : sqDist x c ≠ ⊤ ∧ sqDist x c ≠ ⊥ := by
  obtain ⟨a, rfl⟩ := hx.exists_coe
  obtain ⟨b, rfl⟩ := hc.exists_coe
  rw [sqDist_coe]
  exact ⟨EReal.coe_ne_top _, EReal.coe_ne_bot _⟩

/-- A padded column: an infinite square sum and a zero centre give an infinite distance to a finite row. -/
theorem padded_eq (hx : Finite x) : (∑ j, x j * x j) + ⊤ + ∑ j, x j * 0 = ⊤ := by
  obtain ⟨a, rfl⟩ := hx.exists_coe
  simp only [← EReal.coe_mul, coe_sum, mul_zero, Finset.sum_const_zero, add_zero, EReal.coe_add_top]

variable (X : Fin 16384 → Fin 128 → EReal) (C : Fin 1000 → Fin 128 → EReal) (r : Fin 16384)

/-- Row `r`'s squared distances to the centres, as a function of the centre's number, infinite past the last. -/
noncomputable def dist (n : ℕ) : EReal := if h : n < 1000 then sqDist (X r) (C ⟨n, h⟩) else ⊤

/-- Below 1000 the distance is to that centre. -/
theorem dist_of_lt {n : ℕ} (h : n < 1000) : dist X C r n = sqDist (X r) (C ⟨n, h⟩) := dif_pos h
/-- From 1000 on the distance is infinite. -/
theorem dist_of_ge {n : ℕ} (h : 1000 ≤ n) : dist X C r n = ⊤ := dif_neg (by omega)

/-- The number of the first centre nearest to row `r`. -/
noncomputable def nearest : ℕ := Classical.epsilon fun k => IsFirstMin 0 1000 (dist X C r) k

variable {X C r}

/-- Whatever is the first minimiser of the distances is the number of the first nearest centre. -/
theorem nearest_eq {k : ℕ} (h : IsFirstMin 0 1000 (dist X C r) k) : nearest X C r = k :=
  (Classical.epsilon_spec ⟨k, h⟩ : IsFirstMin 0 1000 (dist X C r) (nearest X C r)).unique h

/-- On finite rows and centres no distance is −∞. -/
theorem dist_ne_bot (hx : Finite (X r)) (hc : ∀ k, Finite (C k)) (n : ℕ) : dist X C r n ≠ ⊥ := by
  unfold dist; split
  · exact (sqDist_finite hx (hc _)).2
  · exact top_ne_bot

/-- On finite rows and centres the distance to a centre is not +∞. -/
theorem dist_ne_top (hx : Finite (X r)) (hc : ∀ k, Finite (C k)) {n : ℕ} (hn : n < 1000) : dist X C r n ≠ ⊤ := by
  rw [dist_of_lt X C r hn]; exact (sqDist_finite hx (hc _)).1

end Cert.Distance
-- ==== Proof.KernelRun.lean ====
/-
  What the kernel's result array holds at the end of its run, on finite arguments: at every row the number
  of the first centre nearest to it.
-/
module

public import proofs.«01_k».proof.Proof.Gen.KernelIdeal.Frame
public import proofs.«01_k».proof.Proof.Block
public import proofs.«01_k».proof.Proof.Distance
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen Cert.Argmin Cert.Distance

namespace Cert.KernelRun

variable (m : (ℓ : Loc nD τ sig) → Buf (Elt Ideal) ℓ) (c : Dev nD)

/-- Device `c`'s rows. -/
def rows (r : Fin 16384) (j : Fin 128) : EReal := (m (c.tc.loc main_arg0) : S16384x128.Idx → EReal) (ix2 r j)
/-- Device `c`'s centres. -/
def centres (k : Fin 1000) (j : Fin 128) : EReal := (m (c.tc.loc main_arg1) : S1000x128.Idx → EReal) (ix2 k j)

/-- The pattern of -2. -/
theorem bits_neg2 : Ideal.ofBits .f32 0xC0000000#32 = ((-2 : ℝ) : EReal) := by
  simp [Ideal.ofBits, Ideal.ieee]; rw [← EReal.coe_mul]; norm_num

/-! ### The operands the host prepares -/

/-- The scaled and padded centres as the launch finds them. -/
theorem scaled_apply (k : Fin 1024) (j : Fin 128) : (V m c main_v2 : S1024x128.Idx → EReal) (ix2 k j)
    = (if h : (k : ℕ) < 1000 then centres m c ⟨k, h⟩ j * ((-2 : ℝ) : EReal) else (0 : EReal) : EReal) := by
  unfold V
  after_reads_at
  rw [bits_neg2]
  have h0 : FloatOps.sitofp (F := Ideal) FTy.f32 0#32 = (0 : EReal) := by
    show (((0#32 : BitVec 32).toInt : ℝ) : EReal) = 0
    simp
  rw [h0]
  rfl

/-- The centres' square sums, padded with infinity, as the launch finds them. -/
theorem squares_apply (k : Fin 1024) : (V m c main_v6 : S1x1024.Idx → EReal) (ix2 (0 : Fin 1) k)
    = (if h : (k : ℕ) < 1000 then ∑ j, centres m c ⟨k, h⟩ j * centres m c ⟨k, h⟩ j else (⊤ : EReal) : EReal) := by
  unfold V
  after_reads_at
  have h0 : id (constant (F := Ideal) S_ FTy.f32 2139095040#32) (Shape.Idx.first h_S_) = (⊤ : EReal) := Block.bits_inf
  rw [h0]
  rfl

/-! ### The windows' blocks -/

/-- Where each window's block starts at grid point `t`. -/
theorem idx : ∀ t : Fin grid0.N, win0_0.index t = ![(t : ℕ), 0] ∧ win0_1.index t = ![0, 0] ∧ win0_2.index t = ![0, 0]
    ∧ win0_3.index t = ![(t : ℕ), 0, 0] := by decide +kernel

/-- There are sixteen grid points. -/
theorem point_lt (t : Fin cfg0.N) : (t : ℕ) < 16 := lt_of_lt_of_eq t.2 (by decide +kernel : cfg0.N = 16)

/-- Row `p` of the block at grid point `t`, as a row of the array. -/
def rowAt (t : Fin cfg0.N) (p : Fin 1024) : Fin 16384 := ⟨t * 1024 + p, by have := point_lt t; omega⟩

/-- The first window at a grid point holds that point's 1024 rows. -/
theorem block0_apply (t : Fin cfg0.N) (p : Fin 1024) (j : Fin 128) :
    (iblk m c 0 t : S1024x128.Idx → EReal) (ix2 p j) = (rows m c (rowAt t p) j : EReal) := by
  unfold rows rowAt
  blk_ext [iblk, V, idx t]

/-- The second window holds the centres times −2, and zeros past the last centre. -/
theorem block1_apply (t : Fin cfg0.N) (k : Fin 1024) (j : Fin 128) :
    (iblk m c 1 t : S1024x128.Idx → EReal) (ix2 k j)
      = (if h : (k : ℕ) < 1000 then centres m c ⟨k, h⟩ j * ((-2 : ℝ) : EReal) else (0 : EReal) : EReal) := by
  refine Eq.trans (b := (V m c main_v2 : S1024x128.Idx → EReal) (ix2 k j)) ?_ (scaled_apply m c k j)
  blk_ext [iblk, idx t]

/-- The third window holds the centres' square sums, and +∞ past the last centre. -/
theorem block2_apply (t : Fin cfg0.N) (k : Fin 1024) :
    (iblk m c 2 t : S1x1024.Idx → EReal) (ix2 (0 : Fin 1) k)
      = (if h : (k : ℕ) < 1000 then ∑ j, centres m c ⟨k, h⟩ j * centres m c ⟨k, h⟩ j else (⊤ : EReal) : EReal) := by
  refine Eq.trans (b := (V m c main_v6 : S1x1024.Idx → EReal) (ix2 (0 : Fin 1) k)) ?_ (squares_apply m c k)
  blk_ext [iblk, idx t]

/-- The result's block at grid point `t` is the array's plane `t`. -/
theorem result_emb (t : Fin cfg0.N) (p : Fin 1024) :
    (((View.whole main_v7).slice (win0_3.rect t)).emb (ix3 (0 : Fin 1) (0 : Fin 1) p) : S16x1x1024.Idx)
      = ix3 (⟨t, point_lt t⟩ : Fin 16) (0 : Fin 1) p := by
  blk_ext [idx t]

/-! ### The result -/

/-- What the region's array holds: at plane `b`, lane `p`, the first centre nearest to row `1024 b + p`. -/
def planes (i : S16x1x1024.Idx) : BitVec 32 :=
  BitVec.ofNat 32 (nearest (rows m c) (centres m c) ⟨(i 0).1 * 1024 + (i 2).1, by
    have h0 : (i 0).1 < 16 := (i 0).2
    have h2 : (i 2).1 < 1024 := (i 2).2
    omega⟩)

section Finite
variable (hX : ∀ r, Finite (rows m c r)) (hC : ∀ k, Finite (centres m c k))
include hX hC

/-- The kernel's distances on a row are the reference's, infinite on the padding. -/
theorem rowDist_eq (t : Fin cfg0.N) (p k : Fin 1024) :
    Block.rowDist (iblk m c 0 t) (iblk m c 1 t) (iblk m c 2 t) p k = dist (rows m c) (centres m c) (rowAt t p) k := by
  unfold Block.rowDist
  simp only [block0_apply m c t p, block1_apply m c t k, block2_apply m c t k]
  by_cases h : (k : ℕ) < 1000
  · rw [dist_of_lt _ _ _ h, ← scaled_eq (hX _) (hC _)]
    simp only [dif_pos h]
  · rw [dist_of_ge _ _ _ (by omega)]
    simp only [dif_neg h]
    exact padded_eq (hX (rowAt t p))

/-- The region's array at the end. -/
theorem planes_eq : (dats m 0 c).arrAt 3 cfg0.N = planes m c := by
  refine (dats m 0 c).arrAt_eq_of_covers 3 _ (by decide +kernel) fun t hf y => ?_
  blk_simp
  rw [after0_3]
  frame_out
  idx_vars y
  obtain rfl := Subsingleton.elim y0 0
  obtain rfl := Subsingleton.elim y1 0
  have hx := hX (rowAt t y2)
  obtain ⟨k, hk, e⟩ := Block.row_eq (iblk m c 0 t) (iblk m c 1 t) (iblk m c 2 t) y2
    (dist (rows m c) (centres m c) (rowAt t y2)) (rowDist_eq m c hX hC t y2) (dist_ne_bot hx hC)
    ⟨0, by omega, by omega, dist_ne_top hx hC (by omega)⟩ ⟨336, by omega, by omega, dist_ne_top hx hC (by omega)⟩
    ⟨672, by omega, by omega, dist_ne_top hx hC (by omega)⟩
  have hk' := hk.restrict (mid := 1000) (by omega) (fun n hn => dist_of_ge _ _ _ hn)
    ⟨0, by omega, by omega, dist_ne_top hx hC (by omega)⟩
  refine e.trans ?_
  rw [← nearest_eq hk', result_emb]
  rfl

/-- The kernel's result: at every row the number of its first nearest centre. -/
theorem result_eq (r : Fin 16384) :
    (Pipeline.afterTail₀ cfgs (dats m) 0 (V0 m) [hostOps1] c main_v8 : S16384.Idx → BitVec 32) (ix1 r)
      = BitVec.ofNat 32 (nearest (rows m c) (centres m c) r) := by
  unfold Pipeline.afterTail₀
  after_reads_at
  have h : Pipeline.withArrays spec0 c (V0 m c) (fun w => (dats m 0 c).arrAt w cfg0.N) (Proc.tc.devRef main_v7)
      = planes m c :=
    (Pipeline.withArrays_arr spec0 (by decide) c (V0 m c) (fun w => (dats m 0 c).arrAt w cfg0.N) 3).trans
      (planes_eq m c hX hC)
  refine (congrFun h _).trans ?_
  unfold planes
  congr 2
  exact Fin.ext (by show (r : ℕ) / 1024 * 1024 + (r : ℕ) % 1024 = r; omega)
end Finite

end Cert.KernelRun
-- ==== Proof.RefArgmin.lean ====
/-
  What the reference's index-of-the-minimum reduction gives on a row of a matrix: the first column at which
  the row is least, as a word.
-/
module

public import proofs.«01_k».proof.Proof.Gen.ReferenceIdeal
public import proofs.«01_k».proof.Proof.Argmin
public import proofs.«01_k».proof.Proof.Block
public import Idealize.ShloMosaic.Lib.Pointwise
public import Idealize.ShloMosaic.PureOps.Ideal.Laws

@[expose] public section

set_option maxRecDepth 16384

noncomputable section

open Idealize.ShloMosaic
open Cert.ReferenceIdeal Cert.ReferenceIdeal.Gen Cert.Argmin

namespace Cert.RefArgmin

/-! ### The reducer on small indices -/

/-- The earlier of two pairs by value, then by index. -/
def lexMin (p q : EReal × ℕ) : EReal × ℕ := if p.1 < q.1 ∨ (p.1 = q.1 ∧ p.2 < q.2) then p else q

/-- A pair with its index written as a 32-bit word. -/
def enc (p : EReal × ℕ) : Ideal .f32 × BitVec 32 := (p.1, BitVec.ofNat 32 p.2)

/-- On small indices the reducer takes the earlier pair. -/
theorem reducer_enc (p q : EReal × ℕ) (hp : p.2 < 1024) (hq : q.2 < 1024) :
    reducer_argmin_f32_i32 (F := Ideal) (enc p) (enc q) = enc (lexMin p q) := by
  obtain ⟨v, n⟩ := p
  obtain ⟨w, k⟩ := q
  have hs : (BitVec.ofNat 32 n).slt (BitVec.ofNat 32 k) = decide (n < k) := by
    rw [BitVec.slt, Block.toInt_ofNat n hp, Block.toInt_ofNat k hq]; simp
  have hu : FloatOps.cmpf (F := Ideal) (φ := .f32) .une v v = 0#1 := by simp [Ideal.cmpf_def, Ideal.cmp]
  unfold reducer_argmin_f32_i32 enc lexMin
  simp only [hu, IntOp.cmpi, hs, Ideal.cmpf_def, Ideal.cmp]
  rcases lt_trichotomy v w with h | h | h
  · simp [h, h.ne, Scalar.select, IntOp.ori, IntOp.andi]
  · subst h
    by_cases hn : n < k <;> simp [hn, Scalar.select, IntOp.ori, IntOp.andi]
  · simp [h.not_gt, h.ne', Scalar.select, IntOp.ori, IntOp.andi]

/-- The earlier of two pairs with small indices has a small index. -/
theorem lexMin_snd_lt (p q : EReal × ℕ) (hp : p.2 < 1024) (hq : q.2 < 1024) : (lexMin p q).2 < 1024 := by
  unfold lexMin; split <;> assumption

/-- Folding the reducer over pairs with small indices folds the earlier-pair choice. -/
theorem foldl_enc (L : List (EReal × ℕ)) (p : EReal × ℕ) (hp : p.2 < 1024) (hL : ∀ q ∈ L, q.2 < 1024) :
    (L.map enc).foldl (reducer_argmin_f32_i32 (F := Ideal)) (enc p) = enc (L.foldl lexMin p) := by
  induction L generalizing p with
  | nil => rfl
  | cons q L ih =>
    rw [List.map_cons, List.foldl_cons, List.foldl_cons, reducer_enc p q hp (hL q (by simp))]
    exact ih _ (lexMin_snd_lt p q hp (hL q (by simp))) fun r hr => hL r (by simp [hr])

/-! ### The fold's result -/

/-- A pair comes no later than itself. -/
theorem LexLe.rfl' (p : EReal × ℕ) : LexLe p p := .inr ⟨rfl, le_rfl⟩

/-- Coming no later is transitive. -/
theorem LexLe.trans' {p q r : EReal × ℕ} (h : LexLe p q) (h' : LexLe q r) : LexLe p r := by
  rcases h with h | ⟨h, hn⟩ <;> rcases h' with h' | ⟨h', hn'⟩
  · exact .inl (h.trans h')
  · exact .inl (h' ▸ h)
  · exact .inl (h ▸ h')
  · exact .inr ⟨h.trans h', hn.trans hn'⟩

/-- The earlier of two pairs comes no later than the first. -/
theorem lexMin_le_left (p q : EReal × ℕ) : LexLe (lexMin p q) p := by
  unfold lexMin; split
  · exact LexLe.rfl' p
  · rename_i h
    rcases lt_trichotomy p.1 q.1 with h' | h' | h'
    · exact absurd (.inl h') h
    · exact .inr ⟨h'.symm, not_lt.1 fun hn => h (.inr ⟨h', hn⟩)⟩
    · exact .inl h'

/-- The earlier of two pairs comes no later than the second. -/
theorem lexMin_le_right (p q : EReal × ℕ) : LexLe (lexMin p q) q := by
  unfold lexMin; split
  · rename_i h
    rcases h with h | h
    · exact .inl h
    · exact .inr ⟨h.1, h.2.le⟩
  · exact LexLe.rfl' q

/-- The fold comes no later than its start or any member, and is one of them. -/
theorem foldl_lexMin (L : List (EReal × ℕ)) (p : EReal × ℕ) :
    LexLe (L.foldl lexMin p) p ∧ (∀ q ∈ L, LexLe (L.foldl lexMin p) q) ∧ (L.foldl lexMin p = p ∨ L.foldl lexMin p ∈ L) := by
  induction L generalizing p with
  | nil => exact ⟨LexLe.rfl' p, by simp, .inl rfl⟩
  | cons q L ih =>
    rw [List.foldl_cons]
    obtain ⟨h1, h2, h3⟩ := ih (lexMin p q)
    refine ⟨LexLe.trans' h1 (lexMin_le_left p q), fun r hr => ?_, ?_⟩
    · rcases List.mem_cons.1 hr with rfl | hr
      · exact LexLe.trans' h1 (lexMin_le_right p r)
      · exact h2 r hr
    · rcases h3 with h3 | h3
      · rw [h3]; unfold lexMin; split
        · exact .inl rfl
        · exact .inr (by simp)
      · exact .inr (by simp [h3])

/-! ### The reduction of a row -/

variable (x : FVec Ideal S16384x1000 .f32) (r : Fin 16384) (f : ℕ → EReal)

/-- The pairs the reduction of row `r` runs over, with natural-number indices. -/
def pairs : List (EReal × ℕ) :=
  ((List.finRange S16384x1000.numel).filter fun n => reducesTo_S16384x1000_S16384_d1.drop (S16384x1000.rowMajor.symm n) = ix1 r).map
    fun n => (x (S16384x1000.rowMajor.symm n), ((S16384x1000.rowMajor.symm n) 1 : ℕ))

/-- What the reduction of row `r` folds over is the list of pairs, encoded. -/
theorem fiber_eq : Host.argReduceFiber x (iotaInDim S16384x1000 32 1) reducesTo_S16384x1000_S16384_d1 (ix1 r)
    = (pairs x r).map enc := by
  unfold Host.argReduceFiber pairs
  rw [List.map_map]
  rfl

/-- The pairs of row `r` are its entries with their column numbers. -/
theorem mem_pairs (p : EReal × ℕ) : p ∈ pairs x r ↔ ∃ k : Fin 1000, p = (x (ix2 r k), (k : ℕ)) := by
  unfold pairs
  simp only [List.mem_map, List.mem_filter, List.mem_finRange, true_and, decide_eq_true_eq]
  have hd : ∀ i : S16384x1000.Idx, reducesTo_S16384x1000_S16384_d1.drop i = ix1 r ↔ (i 0 : ℕ) = r := by
    intro i
    have hv : (reducesTo_S16384x1000_S16384_d1.drop i 0 : ℕ) = i 0 :=
      Shape.ReducesTo.drop_apply_val_of_eq reducesTo_S16384x1000_S16384_d1 i 0 0
    refine ⟨fun h => by rw [← hv, h]; rfl, fun h => funext fun b => Fin.ext ?_⟩
    obtain rfl := Subsingleton.elim b 0
    exact hv.trans h
  constructor
  · rintro ⟨n, hn, rfl⟩
    rw [hd] at hn
    refine ⟨S16384x1000.rowMajor.symm n 1, congrArg (fun i => (x i, ((i 1 : Fin 1000) : ℕ))) (?_ : _ = ix2 r _)⟩
    refine funext fun b => ?_
    fin_cases b
    · exact Fin.ext hn
    · rfl
  · rintro ⟨k, rfl⟩
    refine ⟨S16384x1000.rowMajor (ix2 r k), ?_, ?_⟩
    · rw [Equiv.symm_apply_apply, hd]; rfl
    · rw [Equiv.symm_apply_apply]; rfl

/-- THE REFERENCE'S INDEX OF THE MINIMUM: on a row whose entries are `f`, the first minimiser of `f`. -/
theorem argmin_eq (hf : ∀ k : Fin 1000, x (ix2 r k) = f k) :
    ∃ k, IsFirstMin 0 1000 f k ∧
      (Host.argReduce (reducer_argmin_f32_i32 (F := Ideal)) x (iotaInDim S16384x1000 32 1) (constant S_ .f32 0x7F800000#32)
        (constantI S_ 32 0#32) reducesTo_S16384x1000_S16384_d1 h_S_ (ix1 r)).2 = BitVec.ofNat 32 k := by
  rw [Ideal.argReduce_eq_reduce2, Host.reduce2_eq_foldl_fiber, fiber_eq]
  have hmem : ∀ q, q ∈ pairs x r ↔ ∃ k, k < 1000 ∧ q = (f k, k) := fun q => by
    rw [mem_pairs]
    exact ⟨fun ⟨k, h⟩ => ⟨k, k.2, by rw [h, hf]⟩, fun ⟨k, hk, h⟩ => ⟨⟨k, hk⟩, by rw [h, hf]⟩⟩
  have hinit : (constant (F := Ideal) S_ .f32 0x7F800000#32 (Shape.Idx.first h_S_), constantI S_ 32 0#32 (Shape.Idx.first h_S_))
      = enc (⊤, 0) := Prod.ext Block.bits_inf rfl
  rw [hinit, foldl_enc _ _ (by norm_num) (fun q hq => by obtain ⟨k, hk, rfl⟩ := (hmem q).1 hq; show k < 1024; omega)]
  obtain ⟨h1, h2, h3⟩ := foldl_lexMin (pairs x r) (⊤, 0)
  refine ⟨_, isFirstMin_of_lex (p := (pairs x r).foldl lexMin (⊤, 0)) ?_ fun j hj => h2 _ ((hmem _).2 ⟨j, hj, rfl⟩), rfl⟩
  rcases h3 with h3 | h3
  · have := h2 _ ((hmem _).2 ⟨0, by norm_num, rfl⟩)
    rw [h3] at this ⊢
    rcases this with h | h
    · exact absurd h not_top_lt
    · exact ⟨0, by norm_num, Prod.ext h.1 rfl⟩
  · exact (hmem _).1 h3

end Cert.RefArgmin
-- ==== Proof.RefRun.lean ====
/-
  What the reference's result holds at an index: the number of the first centre nearest to that row.
-/
module

public import proofs.«01_k».proof.Proof.Gen.ReferenceIdeal
public import proofs.«01_k».proof.Proof.RefArgmin
public import proofs.«01_k».proof.Proof.Distance
public import Idealize.ShloMosaic.Lib.Pointwise

@[expose] public section

set_option maxRecDepth 16384

noncomputable section

open Idealize.ShloMosaic
open Cert.ReferenceIdeal Cert.ReferenceIdeal.Gen Cert.Argmin Cert.Distance

namespace Cert.RefRun

/-- The pattern of 2. -/
theorem bits_two : Ideal.ofBits .f32 0x40000000#32 = ((2 : ℝ) : EReal) := by
  simp [Ideal.ofBits, Ideal.ieee]; rw [← EReal.coe_mul]; norm_num

variable (X : FVec Ideal S16384x128 .f32) (C : FVec Ideal S1000x128 .f32)

/-- The reference's matrix of squared distances, as its operations compose. -/
def distMatrix : FVec Ideal S16384x1000 .f32 :=
  subf
    (addf
      (broadcastInDim S16384x1000 ![0, 1] bcast_S16384x1_S16384x1000_0_1
        (broadcastInDim S16384x1 ![0] bcast_S16384_S16384x1_0
          (Host.reduceAdd (mulf X X) (constant S_ .f32 0#32) reducesTo_S16384x128_S16384_d1 h_S_)))
      (broadcastInDim S16384x1000 ![0, 1] bcast_S1x1000_S16384x1000_0_1
        (broadcastInDim S1x1000 ![1] bcast_S1000_S1x1000_1
          (Host.reduceAdd (mulf C C) (constant S_ .f32 0#32) reducesTo_S1000x128_S1000_d1 h_S_))))
    (mulf (broadcastInDim S16384x1000 ![] bcast_S_S16384x1000 (constant S_ .f32 0x40000000#32))
      (Host.dotGeneral dot_S16384x128_S128x1000_S16384x1000_1_0_0_1_n_n none X
        (transpose S128x1000 [1, 0] C transposes_S1000x128_S128x1000_1_0)))

/-- Its entry at row `r` and centre `k` is their squared distance. -/
theorem distMatrix_apply (r : Fin 16384) (k : Fin 1000) :
    distMatrix X C (ix2 r k) = sqDist (fun j => X (ix2 r j)) (fun j => C (ix2 k j)) := by
  pointwise [distMatrix]
  rw [bits_two]
  rfl

/-- The reference's result at row `r` is the number of its first nearest centre. -/
theorem result_apply (r : Fin 16384) :
    (Host.argReduce (reducer_argmin_f32_i32 (F := Ideal)) (distMatrix X C) (iotaInDim S16384x1000 32 1)
      (constant S_ .f32 0x7F800000#32) (constantI S_ 32 0#32) reducesTo_S16384x1000_S16384_d1 h_S_ (ix1 r)).2
      = BitVec.ofNat 32 (nearest (fun r j => X (ix2 r j)) (fun k j => C (ix2 k j)) r) := by
  obtain ⟨k, hk, e⟩ := RefArgmin.argmin_eq (distMatrix X C) r (dist (fun r j => X (ix2 r j)) (fun k j => C (ix2 k j)) r)
    fun k => by rw [distMatrix_apply, dist_of_lt _ _ _ k.2]
  rw [e, nearest_eq hk]

end Cert.RefRun
-- ==== Proof.Finite.lean ====
/-
  The precondition read at the arguments: no entry of the rows or of the centres is infinite.
-/
module

public import proofs.«01_k».proof.Defs
public import proofs.«01_k».proof.Proof.KernelRun
public import Idealize.ShloMosaic.Lib.Pointwise

@[expose] public section

set_option maxRecDepth 16384

noncomputable section

open Idealize.ShloMosaic Idealize.ShloMosaic.TcCoe
open Cert.KernelIdeal Cert.Distance

namespace Cert.FiniteArgs

/-- The side conditions of the precondition's own operations. -/
theorem facts : Cert.Pre_finite.Facts := ⟨by decide, by decide⟩

/-- A value of magnitude below infinity is neither infinity. -/
theorem ne_of_abs_lt (a : EReal) (h : BitVec.ofBool (decide (max a (-a) < ⊤)) = 1#1) : a ≠ ⊤ ∧ a ≠ ⊥ := by
  have h' : max a (-a) < ⊤ := by
    by_contra hc
    rw [decide_eq_false hc] at h
    exact absurd h (by decide)
  constructor
  · rintro rfl; simp at h'
  · rintro rfl; simp at h'

variable [Cert.Pre_finite.Facts] {m : (ℓ : Loc nD τ sig) → Buf (Elt Ideal) ℓ}

/-- Under the precondition the rows are finite. -/
theorem rows_finite (h : Pre_KernelIdeal_finite m) (c : Dev nD) (r : Fin 16384) : Finite (KernelRun.rows m c r) := by
  intro j
  have h1 := congrFun (h c).1 (ix2 r j)
  revert h1
  unfold Cert.Pre_finite.fn
  pointwise
  rw [Block.bits_inf]
  exact ne_of_abs_lt _

/-- Under the precondition the centres are finite. -/
theorem centres_finite (h : Pre_KernelIdeal_finite m) (c : Dev nD) (k : Fin 1000) : Finite (KernelRun.centres m c k) := by
  intro j
  have h1 := congrFun (h c).2 (ix2 k j)
  revert h1
  unfold Cert.Pre_finite.fn
  pointwise
  rw [Block.bits_inf]
  exact ne_of_abs_lt _

end Cert.FiniteArgs
-- ==== Proof.lean ====
/-
  The proof of `Cert.Claim`: the kernel and the reference run and leave their arguments and every semaphore
  as they were, and on finite arguments the kernel's result is the reference's: at every row, the number of
  the first centre nearest to it.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.KernelRun
public import proofs.«01_k».proof.Proof.RefRun
public import proofs.«01_k».proof.Proof.Finite
public import Idealize.ShloMosaic.Lib.Claim
public import Idealize.ShloMosaic.Lib.StableHlo.RunHlo
public import Idealize.ShloMosaic.Lib.StableHlo.ReadAt
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, from any memory, leaving its arguments and every semaphore as they were. -/
theorem reference_runs : Cert.quiescent_ReferenceIdeal := by
  intro m g _
  hlo_run
  · exact fun _ => ⟨trivial, trivial⟩
  · exact sem_eq_zero_of_no_sems (sig := ReferenceIdeal.sig) (by decide) _

/-- On finite arguments the reference's composed result is what the kernel's result buffer holds. -/
theorem results_agree [Cert.Pre_finite.Facts] (m : (ℓ : Loc KernelIdeal.nD KernelIdeal.τ KernelIdeal.sig) → Buf (Elt Ideal) ℓ)
    (h : Pre_KernelIdeal_finite m) (c : Dev KernelIdeal.nD) :
    (fun j => (Host.argReduce (ReferenceIdeal.reducer_argmin_f32_i32 (F := Ideal))
        (RefRun.distMatrix (m (c.tc.loc KernelIdeal.main_arg0)) (m (c.tc.loc KernelIdeal.main_arg1)))
        (iotaInDim ReferenceIdeal.S16384x1000 32 1) (constant ReferenceIdeal.S_ .f32 0x7F800000#32)
        (constantI ReferenceIdeal.S_ 32 0#32) ReferenceIdeal.Facts₀.reducesTo_S16384x1000_S16384_d1
        ReferenceIdeal.Facts₀.h_S_ j).2)
      = (Pipeline.afterTail₀ KernelIdeal.cfgs (KernelIdeal.Gen.dats m) 0 (KernelIdeal.Gen.V0 m) [KernelIdeal.Gen.hostOps1] c
          KernelIdeal.main_v8 : KernelIdeal.S16384.Idx → BitVec 32) := by
  funext j
  idx_vars j
  rw [RefRun.result_apply]
  exact (KernelRun.result_eq m c (FiniteArgs.rows_finite h c) (FiniteArgs.centres_finite h c) j0).symm

/-- On finite arguments the two results agree: at every row both are the number of the first nearest centre. -/
theorem same_result [Cert.Pre_finite.Facts] : Cert.algebraic_KernelIdeal_ReferenceIdeal_pre_finite := by
  pair_intro
  · run_from Cert.KernelIdeal.Gen.run_main m g
    exact KernelIdeal.Gen.W_main_arg1 m (KernelIdeal.Gen.dats m) c
  · hlo_run
    exact results_agree m hpre c

/-- The whole claim: the frames of the three programs, the ideal kernel, and the equality of the results. -/
theorem claim : Cert.Claim :=
  ⟨Cert.Kernel.Gen.facts, Cert.KernelIdeal.Gen.facts, Cert.ReferenceIdeal.Gen.facts, Cert.FiniteArgs.facts,
    fun m g _ => Cert.Kernel.Gen.frame m g, fun m g _ => Cert.KernelIdeal.Gen.frame m g,
    fun m g _ => Cert.KernelIdeal.Gen.frame m g, reference_runs, fun m g _ => reference_runs m g trivial, trivial,
    @same_result Cert.FiniteArgs.facts⟩

end Cert.Proof

end
